-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S100000x128 : Shape := ⟨2, ![100000, 128]⟩
abbrev S64x128 : Shape := ⟨2, ![64, 128]⟩
abbrev S4x8x128 : Shape := ⟨3, ![4, 8, 128]⟩
abbrev S_ : Shape := ⟨0, ![]⟩
abbrev S4x1x128 : Shape := ⟨3, ![4, 1, 128]⟩
abbrev S99968x128 : Shape := ⟨2, ![99968, 128]⟩
abbrev S8x12496x128 : Shape := ⟨3, ![8, 12496, 128]⟩
abbrev S32x128 : Shape := ⟨2, ![32, 128]⟩

abbrev nBuf : Table → Nat
  | .hbm => 2
  | .shared => 1
  | _ => 0

abbrev bufTy : (tb : Table) → Fin (nBuf tb) → BufTy
  | .hbm, ⟨0, _⟩ => ⟨S100000x128, .f32⟩
  | .hbm, ⟨1, _⟩ => ⟨S64x128, .f32⟩
  | .shared, ⟨0, _⟩ => ⟨S4x8x128, .f32⟩
  | _, _ => ⟨S100000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scs : Ref sig .scScalar := ⟨.hbm, 0, rfl⟩
abbrev main_v0_scs : Ref sig .scScalar := ⟨.hbm, 1, rfl⟩
abbrev cc0_scratch0 : Ref sig .scScalar := ⟨.shared, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 3 → Nat :=
  let arg0 : BitVec 32 := BitVec.ofNat 32 (i 0).val
  let c4_i32 : BitVec 32 := 4#32
  let v0 : BitVec 32 := Scalar.muli arg0 c4_i32
  let c0_i32_4 : BitVec 32 := 0#32
  let c0_i32_5 : BitVec 32 := 0#32
  ![v0.toNat, 0, 0]
def k0_off2 (i : grid0.Coords) : Fin 3 → Nat :=
  let arg0 : BitVec 32 := BitVec.ofNat 32 (i 0).val
  let c4_i32_6 : BitVec 32 := 4#32
  let v5 : BitVec 32 := Scalar.muli arg0 c4_i32_6
  let c1562_i32 : BitVec 32 := 1562#32
  let c0_i32_11 : BitVec 32 := 0#32
  ![v5.toNat, 1562, 0]
def k0_off3 (i : grid0.Coords) : Fin 3 → Nat :=
  let arg0 : BitVec 32 := BitVec.ofNat 32 (i 0).val
  let c4_i32_12 : BitVec 32 := 4#32
  let v10 : BitVec 32 := Scalar.muli arg0 c4_i32_12
  let c3124_i32 : BitVec 32 := 3124#32
  let c0_i32_17 : BitVec 32 := 0#32
  ![v10.toNat, 3124, 0]
def k0_off4 (i : grid0.Coords) : Fin 3 → Nat :=
  let arg0 : BitVec 32 := BitVec.ofNat 32 (i 0).val
  let c4_i32_18 : BitVec 32 := 4#32
  let v15 : BitVec 32 := Scalar.muli arg0 c4_i32_18
  let c4686_i32 : BitVec 32 := 4686#32
  let c0_i32_23 : BitVec 32 := 0#32
  ![v15.toNat, 4686, 0]
def k0_off5 (i : grid0.Coords) : Fin 3 → Nat :=
  let arg0 : BitVec 32 := BitVec.ofNat 32 (i 0).val
  let c4_i32_24 : BitVec 32 := 4#32
  let v20 : BitVec 32 := Scalar.muli arg0 c4_i32_24
  let c6248_i32 : BitVec 32 := 6248#32
  let c0_i32_30 : BitVec 32 := 0#32
  ![v20.toNat, 6248, 0]
def k0_off6 (i : grid0.Coords) : Fin 3 → Nat :=
  let arg0 : BitVec 32 := BitVec.ofNat 32 (i 0).val
  let c4_i32_31 : BitVec 32 := 4#32
  let v25 : BitVec 32 := Scalar.muli arg0 c4_i32_31
  let c7810_i32 : BitVec 32 := 7810#32
  let c0_i32_36 : BitVec 32 := 0#32
  ![v25.toNat, 7810, 0]
def k0_off7 (i : grid0.Coords) : Fin 3 → Nat :=
  let arg0 : BitVec 32 := BitVec.ofNat 32 (i 0).val
  let c4_i32_37 : BitVec 32 := 4#32
  let v30 : BitVec 32 := Scalar.muli arg0 c4_i32_37
  let c9372_i32 : BitVec 32 := 9372#32
  let c0_i32_42 : BitVec 32 := 0#32
  ![v30.toNat, 9372, 0]
def k0_off8 (i : grid0.Coords) : Fin 3 → Nat :=
  let arg0 : BitVec 32 := BitVec.ofNat 32 (i 0).val
  let c4_i32_43 : BitVec 32 := 4#32
  let v35 : BitVec 32 := Scalar.muli arg0 c4_i32_43
  let c10934_i32 : BitVec 32 := 10934#32
  let c0_i32_48 : BitVec 32 := 0#32
  ![v35.toNat, 10934, 0]
def k0_off9 (i : grid0.Coords) : Fin 2 → Nat :=
  let arg0 : BitVec 32 := BitVec.ofNat 32 (i 0).val
  let c32_i32 : BitVec 32 := 32#32
  let v72 : BitVec 32 := Scalar.muli arg0 c32_i32
  let c0_i32_105_r0 : BitVec 32 := 0#32
  ![v72.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S100000x128 : Shape := ⟨2, ![100000, 128]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x128 : Shape := ⟨2, ![64, 128]⟩

abbrev nBuf : Space → Nat
  | .hbm => 28
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S64, .i32⟩
  | .hbm, ⟨2, _⟩ => ⟨S_, .i32⟩
  | .hbm, ⟨3, _⟩ => ⟨S64, .i32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S1, .i32⟩
  | .hbm, ⟨14, _⟩ => ⟨S_, .i32⟩
  | .hbm, ⟨15, _⟩ => ⟨S64x1, .i32⟩
  | .hbm, ⟨16, _⟩ => ⟨S64x1, .i1⟩
  | .hbm, ⟨17, _⟩ => ⟨S1x1, .i32⟩
  | .hbm, ⟨18, _⟩ => ⟨S64x1, .i32⟩
  | .hbm, ⟨19, _⟩ => ⟨S64x1, .i1⟩
  | .hbm, ⟨20, _⟩ => ⟨S64x1, .i1⟩
  | .hbm, ⟨21, _⟩ => ⟨S_, .i1⟩
  | .hbm, ⟨22, _⟩ => ⟨S64, .i1⟩
  | .hbm, ⟨23, _⟩ => ⟨S64x128, .f32⟩
  | .hbm, ⟨24, _⟩ => ⟨S64x128, .i1⟩
  | .hbm, ⟨25, _⟩ => ⟨S_, .f32⟩
  | .hbm, ⟨26, _⟩ => ⟨S64x128, .f32⟩
  | .hbm, ⟨27, _⟩ => ⟨S64x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Windows.lean ====
/-
  The windows of the kernel's copies, and which elements they hold. Scalar subcore `c` (of two) copies eight windows of the
  table `x` into eight slices of its staging buffer, then the whole staging buffer, read as 32 rows, into its 32 rows of
  the result. Window `t` of core `c` is the four rows `(32 c + 8 b + t) * 1562` (`b < 4`) of `x`; it is copied into the
  staging buffer's slice `[:, t, :]`. Stated here: the eight slices are disjoint and cover the staging buffer; the two
  blocks of 32 rows are disjoint and cover the result; and what a slice, and the block, hold once a copy has landed.
-/
module

public import proofs.«01_k».proof.Defs
public import proofs.«01_k».proof.Proof.Gen.KernelIdeal
public import Idealize.ShloMosaic.Lib.Tactic
public import Idealize.ShloMosaic.Lib.Ring
public import Idealize.ShloMosaic.Lib.ViewIndex
public import Idealize.ShloMosaic.Lib.ValueIdxCoords
public import Idealize.ShloMosaic.Lib.SparseCore.Quiescent

@[expose] public section

noncomputable section

namespace Cert.Proof.Gather

open Cert.KernelIdeal Cert.KernelIdeal.Gen
open Idealize.ShloMosaic Idealize.ShloMosaic.ValueIdx
open Idealize.SL

variable {F : FTy → Type}

/-! ## The memrefs -/

/-- The table, the result and the staging buffer, as the kernel's body is given them. -/
abbrev xM : Memref sig .scScalar .hbm S100000x128 .f32 := Memref.whole main_arg0_scs
abbrev oM : Memref sig .scScalar .hbm S64x128 .f32 := Memref.whole main_v0_scs
abbrev spM : Memref sig .scScalar .shared S4x8x128 .f32 := Memref.whole cc0_scratch0

/-- The table's first 99968 rows as eight slabs of 12496 rows. -/
abbrev slabs : Memref sig .scScalar .hbm S8x12496x128 .f32 :=
  (xM.slice (Rect.unit (s := S100000x128) ![0, 0] S99968x128.size inb_S100000x128_S99968x128_0_0) (fun _ => rfl)).reshape S8x12496x128
    reshapes_S99968x128_S8x12496x128.1 reshapes_S99968x128_S8x12496x128.2
    ((Memref.isWhole_whole main_arg0_scs).contiguous.slice _ leadingf32_S100000x128_S99968x128_0_0)

/-- Where window `t` of core `L 0` starts among the slabs: slab `4 (L 0)`, row `1562 t`. -/
def srcOff (L : grid0.Coords) (t : Fin 8) : Fin 3 → Nat := ![4 * (L 0).val, 1562 * t.val, 0]

theorem srcOff_inb (L : grid0.Coords) (t : Fin 8) : ∀ a, srcOff L t a + S4x1x128.size a ≤ S8x12496x128.size a := by
  have h0 : (L 0).val < 2 := (L 0).isLt
  have := t.isLt
  intro a; fin_cases a
  · show 4 * (L 0).val + 4 ≤ 8; omega
  · show 1562 * t.val + 1 ≤ 12496; omega
  · show 0 + 128 ≤ 128; omega

theorem dstOff_inb (t : Fin 8) : ∀ a, (![0, t.val, 0] : Fin 3 → Nat) a + S4x1x128.size a ≤ S4x8x128.size a := by
  have := t.isLt
  intro a; fin_cases a
  · show 0 + 4 ≤ 4; omega
  · show t.val + 1 ≤ 8; omega
  · show 0 + 128 ≤ 128; omega

theorem outOff_inb (c : Fin 2) : ∀ a, (![32 * c.val, 0] : Fin 2 → Nat) a + S32x128.size a ≤ S64x128.size a := by
  have := c.isLt
  intro a; fin_cases a
  · show 32 * c.val + 32 ≤ 64; omega
  · show 0 + 128 ≤ 128; omega

/-- Window `t` of the table on core `L 0`; -/
def srcM (L : grid0.Coords) (t : Fin 8) : Memref sig .scScalar .hbm S4x1x128 .f32 :=
  slabs.slice (Rect.unit (s := S8x12496x128) (srcOff L t) S4x1x128.size (srcOff_inb L t)) (fun _ => rfl)
/-- slice `t` of the staging buffer, where it is copied; -/
def dstM (t : Fin 8) : Memref sig .scScalar .shared S4x1x128 .f32 :=
  spM.slice (Rect.unit (s := S4x8x128) ![0, t.val, 0] S4x1x128.size (dstOff_inb t)) (fun _ => rfl)
/-- the staging buffer as 32 rows; -/
def flatM : Memref sig .scScalar .shared S32x128 .f32 :=
  spM.reshape S32x128 reshapes_S4x8x128_S32x128.1 reshapes_S4x8x128_S32x128.2 (Memref.isWhole_whole cc0_scratch0).contiguous
/-- core `c`'s 32 rows of the result. -/
def outM (c : Fin 2) : Memref sig .scScalar .hbm S32x128 .f32 :=
  oM.slice (Rect.unit (s := S64x128) ![32 * c.val, 0] S32x128.size (outOff_inb c)) (fun _ => rfl)

/-! ## The body's operands are those memrefs -/

section Canon
variable (L : grid0.Coords)

@[sl_canon] theorem canon_src0 :
    slabs.slice (Rect.unit (s := S8x12496x128) (k0_off1 L) S4x1x128.size (k0_off1_inb L)) (fun _ => rfl) = srcM L 0 :=
  Memref.slice_unit_congr _ (k0_off1_eq L) _ _ (fun _ => rfl) (fun _ => rfl)
@[sl_canon] theorem canon_src1 :
    slabs.slice (Rect.unit (s := S8x12496x128) (k0_off2 L) S4x1x128.size (k0_off2_inb L)) (fun _ => rfl) = srcM L 1 :=
  Memref.slice_unit_congr _ (k0_off2_eq L) _ _ (fun _ => rfl) (fun _ => rfl)
@[sl_canon] theorem canon_src2 :
    slabs.slice (Rect.unit (s := S8x12496x128) (k0_off3 L) S4x1x128.size (k0_off3_inb L)) (fun _ => rfl) = srcM L 2 :=
  Memref.slice_unit_congr _ (k0_off3_eq L) _ _ (fun _ => rfl) (fun _ => rfl)
@[sl_canon] theorem canon_src3 :
    slabs.slice (Rect.unit (s := S8x12496x128) (k0_off4 L) S4x1x128.size (k0_off4_inb L)) (fun _ => rfl) = srcM L 3 :=
  Memref.slice_unit_congr _ (k0_off4_eq L) _ _ (fun _ => rfl) (fun _ => rfl)
@[sl_canon] theorem canon_src4 :
    slabs.slice (Rect.unit (s := S8x12496x128) (k0_off5 L) S4x1x128.size (k0_off5_inb L)) (fun _ => rfl) = srcM L 4 :=
  Memref.slice_unit_congr _ (k0_off5_eq L) _ _ (fun _ => rfl) (fun _ => rfl)
@[sl_canon] theorem canon_src5 :
    slabs.slice (Rect.unit (s := S8x12496x128) (k0_off6 L) S4x1x128.size (k0_off6_inb L)) (fun _ => rfl) = srcM L 5 :=
  Memref.slice_unit_congr _ (k0_off6_eq L) _ _ (fun _ => rfl) (fun _ => rfl)
@[sl_canon] theorem canon_src6 :
    slabs.slice (Rect.unit (s := S8x12496x128) (k0_off7 L) S4x1x128.size (k0_off7_inb L)) (fun _ => rfl) = srcM L 6 :=
  Memref.slice_unit_congr _ (k0_off7_eq L) _ _ (fun _ => rfl) (fun _ => rfl)
@[sl_canon] theorem canon_src7 :
    slabs.slice (Rect.unit (s := S8x12496x128) (k0_off8 L) S4x1x128.size (k0_off8_inb L)) (fun _ => rfl) = srcM L 7 :=
  Memref.slice_unit_congr _ (k0_off8_eq L) _ _ (fun _ => rfl) (fun _ => rfl)

@[sl_canon] theorem canon_dst0 :
    spM.slice (Rect.unit (s := S4x8x128) ![0, 0, 0] S4x1x128.size inb_S4x8x128_S4x1x128_0_0_0) (fun _ => rfl) = dstM 0 := rfl
@[sl_canon] theorem canon_dst1 :
    spM.slice (Rect.unit (s := S4x8x128) ![0, 1, 0] S4x1x128.size inb_S4x8x128_S4x1x128_0_1_0) (fun _ => rfl) = dstM 1 := rfl
@[sl_canon] theorem canon_dst2 :
    spM.slice (Rect.unit (s := S4x8x128) ![0, 2, 0] S4x1x128.size inb_S4x8x128_S4x1x128_0_2_0) (fun _ => rfl) = dstM 2 := rfl
@[sl_canon] theorem canon_dst3 :
    spM.slice (Rect.unit (s := S4x8x128) ![0, 3, 0] S4x1x128.size inb_S4x8x128_S4x1x128_0_3_0) (fun _ => rfl) = dstM 3 := rfl
@[sl_canon] theorem canon_dst4 :
    spM.slice (Rect.unit (s := S4x8x128) ![0, 4, 0] S4x1x128.size inb_S4x8x128_S4x1x128_0_4_0) (fun _ => rfl) = dstM 4 := rfl
@[sl_canon] theorem canon_dst5 :
    spM.slice (Rect.unit (s := S4x8x128) ![0, 5, 0] S4x1x128.size inb_S4x8x128_S4x1x128_0_5_0) (fun _ => rfl) = dstM 5 := rfl
@[sl_canon] theorem canon_dst6 :
    spM.slice (Rect.unit (s := S4x8x128) ![0, 6, 0] S4x1x128.size inb_S4x8x128_S4x1x128_0_6_0) (fun _ => rfl) = dstM 6 := rfl
@[sl_canon] theorem canon_dst7 :
    spM.slice (Rect.unit (s := S4x8x128) ![0, 7, 0] S4x1x128.size inb_S4x8x128_S4x1x128_0_7_0) (fun _ => rfl) = dstM 7 := rfl

@[sl_canon] theorem canon_flat :
    spM.reshape S32x128 reshapes_S4x8x128_S32x128.1 reshapes_S4x8x128_S32x128.2 (Memref.isWhole_whole cc0_scratch0).contiguous = flatM := rfl
@[sl_canon] theorem canon_out :
    oM.slice (Rect.unit (s := S64x128) (k0_off9 L) S32x128.size (k0_off9_inb L)) (fun _ => rfl) = outM (L 0) :=
  Memref.slice_unit_congr _ (k0_off9_eq L) _ _ (fun _ => rfl) (fun _ => rfl)
end Canon

/-! ## The elements under them -/

/-- The elements of the staging buffer under slice `t`. -/
abbrev dstSet (t : Fin 8) : Finset S4x8x128.Idx := (Rect.unit (s := S4x8x128) ![0, t.val, 0] S4x1x128.size (dstOff_inb t)).set
/-- The elements of the result in core `c`'s rows. -/
abbrev outSet (c : Fin 2) : Finset S64x128.Idx := (Rect.unit (s := S64x128) ![32 * c.val, 0] S32x128.size (outOff_inb c)).set

theorem dstM_set (t : Fin 8) : (dstM t).view.set = dstSet t := View.set_slice_whole _ _
theorem outM_set (c : Fin 2) : (outM c).view.set = outSet c := View.set_slice_whole _ _
theorem flatM_set : flatM.view.set = Finset.univ := by
  simp only [flatM, Memref.view_reshape, View.set_reshape, Memref.view_whole, View.set_whole]; rfl

theorem dst_disjoint (t t' : Fin 8) (h : t ≠ t') : Disjoint (dstSet t) (dstSet t') :=
  Ring.lead_disjoint (s := S4x8x128) (1 : Fin 3) 1 (fun t : Fin 8 => (![0, t.val, 0] : Fin 3 → Nat)) S4x1x128.size dstOff_inb
    (fun t => (Nat.one_mul t.val).symm) rfl t t' h
theorem dst_cover : Finset.univ.biUnion dstSet = Finset.univ :=
  Ring.lead_cover (s := S4x8x128) (1 : Fin 3) 1 (fun t : Fin 8 => (![0, t.val, 0] : Fin 3 → Nat)) S4x1x128.size dstOff_inb
    (fun t => (Nat.one_mul t.val).symm) (fun t a ha => by fin_cases a <;> first | exact absurd rfl ha | rfl) rfl
    (fun a ha => by fin_cases a <;> first | exact absurd rfl ha | rfl) rfl
theorem out_disjoint (c c' : Fin 2) (h : c ≠ c') : Disjoint (outSet c) (outSet c') :=
  Ring.lead_disjoint (s := S64x128) (0 : Fin 2) 32 (fun c : Fin 2 => (![32 * c.val, 0] : Fin 2 → Nat)) S32x128.size outOff_inb
    (fun _ => rfl) rfl c c' h
theorem out_cover : Finset.univ.biUnion outSet = Finset.univ :=
  Ring.lead_cover (s := S64x128) (0 : Fin 2) 32 (fun c : Fin 2 => (![32 * c.val, 0] : Fin 2 → Nat)) S32x128.size outOff_inb
    (fun _ => rfl) (fun c a ha => by fin_cases a <;> first | exact absurd rfl ha | rfl) rfl
    (fun a ha => by fin_cases a <;> first | exact absurd rfl ha | rfl) rfl

/-! ## What the copies carry -/

/-- The result the program computes from the table: its row `r` is the table's row `1562 r`. -/
def rowsOf {α : Type} (x : S100000x128.Idx → α) : S64x128.Idx → α :=
  fun i => x (ix2 (n0 := 100000) (n1 := 128) ⟨1562 * (i 0).val, by have : (i 0).val < 64 := (i 0).isLt; omega⟩ (i 1))

/-- The row of the result that the staging buffer's row `(b, t)` on core `c` becomes: `32 c + 8 b + t`. -/
def rowAt (c : Fin 2) (b : Fin 4) (t : Fin 8) : Fin 64 := ⟨32 * c.val + 8 * b.val + t.val, by omega⟩

/-- What core `c`'s staging buffer holds once its eight copies have landed: the 32 rows of the result it writes. -/
def staged {α : Type} (x : S100000x128.Idx → α) (c : Fin 2) : S4x8x128.Idx → α :=
  fun i => rowsOf x (ix2 (n0 := 64) (n1 := 128) (rowAt c (i 0) (i 1)) (i 2))

/-- Two indices of rank two with the same coordinates are one. -/
theorem idx2_eq {d : Fin 2 → Nat} {x y : (⟨2, d⟩ : Shape).Idx} (h0 : (x 0).val = (y 0).val) (h1 : (x 1).val = (y 1).val) : x = y :=
  funext fun a => by
    match a with
    | ⟨0, _⟩ => exact Fin.ext h0
    | ⟨1, _⟩ => exact Fin.ext h1

/-- Window `t`'s element `j` on core `L 0` is the table's at row `1562 (32 (L 0) + 8 j₀ + t)`. -/
theorem srcM_emb (L : grid0.Coords) (t : Fin 8) (j : S4x1x128.Idx) :
    (srcM L t).view.emb j
      = (ix2 (n0 := 100000) (n1 := 128) ⟨1562 * (rowAt (L 0) (j 0) t).val, by have := (rowAt (L 0) (j 0) t).isLt; omega⟩ (j 2) : S100000x128.Idx) := by
  have h0 : (L 0).val < 2 := (L 0).isLt
  have hj0 : (j 0).val < 4 := (j 0).isLt
  have hj1 : (j 1).val < 1 := (j 1).isLt
  have hj2 : (j 2).val < 128 := (j 2).isLt
  have ht := t.isLt
  -- the index among the first 99968 rows that the slabs' reshape places it at
  have hre : Shape.reshapeEquiv reshapes_S99968x128_S8x12496x128.1
      ((Rect.unit (s := S8x12496x128) (srcOff L t) S4x1x128.size (srcOff_inb L t)).emb j)
      = (ix2 (n0 := 99968) (n1 := 128) ⟨1562 * (rowAt (L 0) (j 0) t).val, by simp only [rowAt]; omega⟩ (j 2) : S99968x128.Idx) := by
    apply Shape.reshapeEquiv_eq_of_rowMajor
    rw [Shape.rowMajor_val_two, Shape.rowMajor_val_three]
    have e0 : ((Rect.unit (s := S8x12496x128) (srcOff L t) S4x1x128.size (srcOff_inb L t)).emb j 0 : Nat) = 4 * (L 0).val + 1 * (j 0).val := rfl
    have e1 : ((Rect.unit (s := S8x12496x128) (srcOff L t) S4x1x128.size (srcOff_inb L t)).emb j 1 : Nat) = 1562 * t.val + 1 * (j 1).val := rfl
    have e2 : ((Rect.unit (s := S8x12496x128) (srcOff L t) S4x1x128.size (srcOff_inb L t)).emb j 2 : Nat) = 0 + 1 * (j 2).val := rfl
    rw [e0, e1, e2]
    show 1562 * (32 * (L 0).val + 8 * (j 0).val + t.val) * 128 + (j 2).val
      = ((4 * (L 0).val + 1 * (j 0).val) * 12496 + (1562 * t.val + 1 * (j 1).val)) * 128 + (0 + 1 * (j 2).val)
    omega
  show (Rect.unit (s := S100000x128) ![0, 0] S99968x128.size inb_S100000x128_S99968x128_0_0).emb
    (Shape.reshapeEquiv reshapes_S99968x128_S8x12496x128.1
      ((Rect.unit (s := S8x12496x128) (srcOff L t) S4x1x128.size (srcOff_inb L t)).emb j)) = _
  rw [hre]
  apply idx2_eq
  · show 0 + 1 * (1562 * (rowAt (L 0) (j 0) t).val) = 1562 * (rowAt (L 0) (j 0) t).val; omega
  · show 0 + 1 * (j 2).val = (j 2).val; omega

/-- Element `j` of slice `t` of the staging buffer is the buffer's at `(j₀, t, j₂)`. -/
theorem dstM_emb (t : Fin 8) (j : S4x1x128.Idx) :
    (dstM t).view.emb j = (ix3 (n0 := 4) (n1 := 8) (n2 := 128) (j 0) t (j 2) : S4x8x128.Idx) := by
  have hj1 : (j 1).val < 1 := (j 1).isLt
  apply Shape.idx3_ext
  · show 0 + 1 * (j 0).val = (j 0).val; omega
  · show t.val + 1 * (j 1).val = t.val; omega
  · show 0 + 1 * (j 2).val = (j 2).val; omega

theorem read_dstM (t : Fin 8) (g : S4x8x128.Idx → Elt F .f32) (j : S4x1x128.Idx) :
    (dstM t).view.read (Elt F) g j = g ((dstM t).view.emb j) := rfl
theorem read_srcM (L : grid0.Coords) (t : Fin 8) (x : S100000x128.Idx → Elt F .f32) (j : S4x1x128.Idx) :
    (srcM L t).view.read (Elt F) x j = x ((srcM L t).view.emb j) := rfl

/-- Slice `t` of the staging buffer, once window `t` has landed in it, holds what `staged` says. -/
theorem landed_staged (L : grid0.Coords) (t : Fin 8) (x : S100000x128.Idx → Elt F .f32) (f : S4x8x128.Idx → Elt F .f32) :
    ∀ i ∈ (dstM t).view.set,
      (dstM t).view.writes (Elt F) f [⟨Rect.whole S4x1x128, ReadAs.same.apply ((srcM L t).view.read (Elt F) x)⟩] i = staged x (L 0) i := by
  intro i hi
  obtain ⟨j, -, rfl⟩ := Finset.mem_map.mp hi
  have h := congrFun (View.read_writes_whole (dstM t).view f (ReadAs.same.apply ((srcM L t).view.read (Elt F) x))) j
  refine ((read_dstM t _ j).symm.trans h).trans ?_
  rw [ReadAs.apply_same, read_srcM, srcM_emb, dstM_emb]
  rfl

theorem read_outM (c : Fin 2) (g : S64x128.Idx → Elt F .f32) (j : S32x128.Idx) :
    (outM c).view.read (Elt F) g j = g ((outM c).view.emb j) := rfl
theorem read_flatM (g : S4x8x128.Idx → Elt F .f32) (j : S32x128.Idx) :
    flatM.view.read (Elt F) g j = g (Shape.reshapeEquiv reshapes_S4x8x128_S32x128.1 j) := rfl

/-- Core `c`'s rows of the result, once its staging buffer has landed in them, are the rows the program computes. -/
theorem landed_rows (c : Fin 2) (x : S100000x128.Idx → Elt F .f32) (f : S64x128.Idx → Elt F .f32) :
    ∀ i ∈ (outM c).view.set,
      (outM c).view.writes (Elt F) f [⟨Rect.whole S32x128, ReadAs.same.apply (flatM.view.read (Elt F) (staged (α := Elt F .f32) x c))⟩] i = rowsOf x i := by
  intro i hi
  obtain ⟨j, -, rfl⟩ := Finset.mem_map.mp hi
  have hj0 : (j 0).val < 32 := (j 0).isLt
  have hc := c.isLt
  have h := congrFun (View.read_writes_whole (outM c).view f (ReadAs.same.apply (flatM.view.read (Elt F) (staged (α := Elt F .f32) x c)))) j
  refine ((read_outM c _ j).symm.trans h).trans ?_
  rw [ReadAs.apply_same]
  refine (read_flatM (staged (α := Elt F .f32) x c) j).trans ?_
  have hre : Shape.reshapeEquiv reshapes_S4x8x128_S32x128.1 j
      = (ix3 (n0 := 4) (n1 := 8) (n2 := 128) ⟨(j 0).val / 8, by omega⟩ ⟨(j 0).val % 8, by omega⟩ (j 1) : S4x8x128.Idx) := by
    apply Shape.reshapeEquiv_eq_of_rowMajor
    rw [Shape.rowMajor_val_two, Shape.rowMajor_val_three]
    show ((j 0).val / 8 * 8 + (j 0).val % 8) * 128 + (j 1).val = (j 0).val * 128 + (j 1).val
    omega
  rw [hre]
  unfold staged
  congr 1
  apply idx2_eq
  · show 32 * c.val + 8 * ((j 0).val / 8) + (j 0).val % 8 = 32 * c.val + 1 * (j 0).val; omega
  · show (j 1).val = 0 + 1 * (j 1).val; omega

end Cert.Proof.Gather

end
-- ==== Proof.Body.lean ====
/-
  The kernel's body on one scalar subcore, from the part of the arrays the launch hands it. Core `c` is handed the table
  `x` at a share of its own and its 32 rows of the result; it hands them back with those rows holding the table's rows
  `1562 r` (`body`). The eight copies into the staging buffer all complete on one DMA semaphore, so they are a BATCH: the
  deliveries are stated before the first copy starts, and the last of the eight waits hands all of them back. For the batch
  the table's share is cut into eight, one for each window, and the staging buffer into its eight slices.
-/
module

public import proofs.«01_k».proof.Proof.Windows
public import Idealize.ShloMosaic.Lib.Batch
public import Idealize.ShloMosaic.Lib.Pipeline.Kit
public import Idealize.ShloMosaic.Lib.StableHlo.Run

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The ghost state: the handshakes' rounds beside the copies' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
/-- Where the copies' counters live: the right factor. -/
abbrev EC : UEmb Counters (MT nD τ sig (HIx 1) (Elt F) ℕ UU ℕ) := countersEmb (U := UU)

/-! ## The arrays and what a core is handed of them -/

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0
/-- SparseCore `c`'s staging buffer. -/
abbrev spLoc (d : Dev nD) (c : Fin τ.nSC) : Loc nD τ sig := (S d c).loc cc0_scratch0

/-- The table on device `d` at the launch, and the rows of it the program returns. -/
abbrev X (d : Dev nD) : S100000x128.Idx → Elt F .f32 := m (xLoc d)
abbrev G (d : Dev nD) : S64x128.Idx → Elt F .f32 := rowsOf (X m d)

/-- Core `c`'s share of the table. -/
abbrev coreShare (c : Fin 2) : PosShare TreeShare := shareTok fullShare 2 c

/-- Core `c`'s part of the table, and its rows of the result at `f`. -/
abbrev xPart (d : Dev nD) (c : Fin 2) : sProp 𝕄 := xLoc d ↦{coreShare c} m (xLoc d)
abbrev oPart (d : Dev nD) (c : Fin 2) (f : Buf (Elt F) (oLoc d)) : sProp 𝕄 := oLoc d ↦[outSet c]{fullShare} f

/-! ## One core's run -/

section Body

variable (d : Dev nD) (L : grid0.Coords)

/-- The core's thread. -/
abbrev thr : Thread nD τ := S d ((L 0).castLE hcore0)

/-- The share of the table that window `t`'s copy reads at. -/
abbrev winShare (t : Fin 8) : PosShare TreeShare := shareTok (coreShare (L 0)) 8 t

/-- Window `t` of the table held by its own elements, and what is left of the table at that share; -/
abbrev srcP (t : Fin 8) : sProp 𝕄 := (srcM L t).view.loc (thr d L) ↦[(srcM L t).view.set]{winShare L t} m (xLoc d)
abbrev srcRest (t : Fin 8) : sProp 𝕄 := xLoc d ↦[Finset.univ \ (srcM L t).view.set]{winShare L t} m (xLoc d)
/-- slice `t` of the staging buffer held by its own elements. -/
abbrev dstP (t : Fin 8) (f : Buf (Elt F) (spLoc d ((L 0).castLE hcore0))) : sProp 𝕄 :=
  (dstM t).view.loc (thr d L) ↦[(dstM t).view.set]{fullShare} f

/-- Slice `t` after window `t`'s copy, over the contents before it. -/
abbrev landed (f : Buf (Elt F) (spLoc d ((L 0).castLE hcore0))) (t : Fin 8) : Buf (Elt F) (spLoc d ((L 0).castLE hcore0)) :=
  (dstM t).view.writes (Elt F) f [⟨Rect.whole S4x1x128, ReadAs.same.apply ((srcM L t).view.read (Elt F) (m (xLoc d)))⟩]

/-- What copy `t` of the batch delivers: slice `t` landed, and window `t` back. -/
abbrev deliv (f : Buf (Elt F) (spLoc d ((L 0).castLE hcore0))) (t : Fin 8) : sProp 𝕄 :=
  iprop(dstP d L t (landed m d L f t) ∗ srcP m d L t)

theorem held_storable {ℓ : Loc nD τ sig} (I : Finset (Idx ℓ)) (q : PosShare TreeShare) (g : Buf (Elt F) ℓ) :
    Storable (upEmb : UEmb _ 𝕄) (ℓ ↦[I]{q} g : sProp 𝕄) := inferInstance

instance deliv_storable (f : Buf (Elt F) (spLoc d ((L 0).castLE hcore0))) (t : Fin 8) : Storable (upEmb : UEmb _ 𝕄) (deliv m d L f t) :=
  @Storable.sep _ _ _ _ _ _ _ _ (held_storable _ _ _) (held_storable _ _ _)

/-- One copy's credit. -/
abbrev N : ℕ := (dstM 0).view.amount (SemLoc.dma (sig := sig) cc0_scratch1.sem)

/-- A separating conjunction over the eight copies, one by one. -/
theorem bigSep8 (Φ : Fin 8 → sProp 𝕄) :
    bigSep Finset.univ Φ = iprop(Φ 0 ∗ Φ 1 ∗ Φ 2 ∗ Φ 3 ∗ Φ 4 ∗ Φ 5 ∗ Φ 6 ∗ Φ 7) := by
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The core's part of the table is its eight windows, each with the rest at the same share, and a remainder. -/
theorem table_windows :
    (xPart m d (L 0) : sProp 𝕄)
      ⊣⊢ iprop((xLoc d ↦{shareDrop (coreShare (L 0)) 8} m (xLoc d)) ∗ bigSep Finset.univ (srcP m d L) ∗ bigSep Finset.univ (srcRest m d L)) := by
  have h : ∀ t : Fin 8, (xLoc d ↦{winShare L t} m (xLoc d) : sProp 𝕄) = iprop(srcP m d L t ∗ srcRest m d L t) := fun t =>
    let h := pointsTo_split_subset (Finset.subset_univ _); h.1.antisymm h.2
  have h2 : (bigSep Finset.univ (fun t : Fin 8 => xLoc d ↦{winShare L t} m (xLoc d)) : sProp 𝕄)
      = iprop(bigSep Finset.univ (srcP m d L) ∗ bigSep Finset.univ (srcRest m d L)) := by
    rw [← bigSep_sep']; exact bigSep_congr fun t _ => h t
  rw [← h2]
  exact Transfers.pointsTo_toks (coreShare (L 0)) 8

/-- The staging buffer is its eight slices. -/
theorem staging_slices (f : Buf (Elt F) (spLoc d ((L 0).castLE hcore0))) :
    (spLoc d ((L 0).castLE hcore0) ↦{fullShare} f : sProp 𝕄) = bigSep Finset.univ fun t => dstP d L t f := by
  have h := pointsTo_biUnion (nD := nD) (τ := τ) (sig := sig) (Ix := HIx 1) (Val := Elt F) (Name := ℕ) (U := UU) (Lvl := ℕ)
    (ℓ := spLoc d ((L 0).castLE hcore0)) (q := fullShare) (f := f) Finset.univ dstSet (fun t _ t' _ => dst_disjoint t t')
  rw [dst_cover] at h
  rw [h]
  exact bigSep_congr fun t _ => by rw [← dstM_set]; rfl

/-- Slice `t` landed is slice `t` at the rows the core writes. -/
theorem dst_landed (f : Buf (Elt F) (spLoc d ((L 0).castLE hcore0))) (t : Fin 8) :
    (dstP d L t (landed m d L f t) : sProp 𝕄) = dstP d L t (staged (α := Elt F .f32) (X m d) (L 0)) :=
  pointsTo_congr (landed_staged L t (X m d) f)

/-- The staging buffer read as 32 rows is the staging buffer. -/
theorem staging_flat :
    (flatM.view.loc (thr d L) ↦[flatM.view.set]{fullShare} staged (α := Elt F .f32) (X m d) (L 0) : sProp 𝕄)
      = (spLoc d ((L 0).castLE hcore0) ↦{fullShare} staged (α := Elt F .f32) (X m d) (L 0)) := by
  rw [flatM_set]; rfl

/-- The eight slices landed are the staging buffer, read as 32 rows, at the rows the core writes. -/
theorem staging_landed (f : Buf (Elt F) (spLoc d ((L 0).castLE hcore0))) :
    (bigSep Finset.univ fun t => dstP d L t (landed m d L f t) : sProp 𝕄)
      = (flatM.view.loc (thr d L) ↦[flatM.view.set]{fullShare} staged (α := Elt F .f32) (X m d) (L 0)) := by
  rw [bigSep_congr fun t _ => dst_landed m d L f t]
  exact (staging_slices d L _).symm.trans (staging_flat m d L).symm

/-- The core's rows of the result, once the staging buffer has landed in them, are at the rows the program returns. -/
theorem rows_landed (fo : Buf (Elt F) (oLoc d)) :
    ((outM (L 0)).view.loc (thr d L) ↦[(outM (L 0)).view.set]{fullShare}
        (outM (L 0)).view.writes (Elt F) fo [⟨Rect.whole S32x128, ReadAs.same.apply (flatM.view.read (Elt F) (staged (α := Elt F .f32) (X m d) (L 0)))⟩] : sProp 𝕄)
      = ((outM (L 0)).view.loc (thr d L) ↦[(outM (L 0)).view.set]{fullShare} G m d) :=
  pointsTo_congr (landed_rows (L 0) (X m d) fo)

variable [FloatOps F]

/-- The body on the core, from its windows of the table, its staging buffer's slices, its rows of the result, its two DMA
    cells at zero and what it owes: the eight copies, their waits, the copy out and its wait. It ends with the staging
    buffer holding the rows the core writes, and those rows of the result holding them. -/
theorem core_run (O : CellTallies nD τ sig (HIx 1)) (W : Waits sig (HIx 1))
    (f : Buf (Elt F) (spLoc d ((L 0).castLE hcore0))) (fo : Buf (Elt F) (oLoc d)) :
    (iprop(Transfers.MayWaits (thr d L) (none : HIx 1) O
        ∗ bigSep Finset.univ (srcP m d L)
        ∗ (bigSep Finset.univ fun t => dstP d L t f)
        ∗ ((outM (L 0)).view.loc (thr d L) ↦[(outM (L 0)).view.set]{fullShare} fo)
        ∗ semVal (thr d L, SemLoc.dma cc0_scratch1.sem) 0 ∗ semVal (thr d L, SemLoc.dma cc0_scoped0.sem) 0
        ∗ owes (thr d L) O W) : sProp 𝕄)
      ⊢ wp frame (wpE (defs₀ (F := F)) 𝒱₀ (thr d L) none) Set.univ
          (cc0_k L xM (Memref.isWhole_whole _) oM (Memref.isWhole_whole _) spM (Memref.isWhole_whole _) cc0_scratch1 cc0_scoped0)
          fun _ => iprop(bigSep Finset.univ (srcP m d L)
            ∗ (spLoc d ((L 0).castLE hcore0) ↦{fullShare} staged (α := Elt F .f32) (X m d) (L 0))
            ∗ ((outM (L 0)).view.loc (thr d L) ↦[(outM (L 0)).view.set]{fullShare} G m d)
            ∗ semVal (thr d L, SemLoc.dma cc0_scratch1.sem) 0 ∗ semVal (thr d L, SemLoc.dma cc0_scoped0.sem) 0
            ∗ ∃ W', owes (thr d L) O W') := by
  rw [bigSep8, bigSep8]
  iintro ⟨#Hmw, ⟨Hs0, Hs1, Hs2, Hs3, Hs4, Hs5, Hs6, Hs7⟩, ⟨Hd0, Hd1, Hd2, Hd3, Hd4, Hd5, Hd6, Hd7⟩, Ho, Hc, Hr, HO⟩
  have hst : ∀ t, Storable (upEmb : UEmb _ 𝕄) (deliv m d L f t) := deliv_storable m d L f
  imod (Transfers.batch_alloc' (Lvl := ℕ) (EC (F := F)) (thr d L) (none : HIx 1) N (deliv m d L f) (sm := .dma cc0_scratch1.sem) (E := Set.univ)) $$ Hc with HB
  sl_unfold [cc0_k, k0_part1, k0_part2, k0_part3]
  sl_exec
  ihave Hsp := (Entails.of_eq (staging_landed m d L f)) $$ [HB_dst0 HB_dst1 HB_dst2 HB_dst3 HB_dst4 HB_dst5 HB_dst6 HB_dst7]
  · rw [bigSep8]
    isplitl [HB_dst0]; · iexact HB_dst0
    isplitl [HB_dst1]; · iexact HB_dst1
    isplitl [HB_dst2]; · iexact HB_dst2
    isplitl [HB_dst3]; · iexact HB_dst3
    isplitl [HB_dst4]; · iexact HB_dst4
    isplitl [HB_dst5]; · iexact HB_dst5
    isplitl [HB_dst6]; · iexact HB_dst6
    iexact HB_dst7
  sl_exec
  sl_step
  isplitl [HB_src0 HB_src1 HB_src2 HB_src3 HB_src4 HB_src5 HB_src6 HB_src7]
  · isplitl [HB_src0]; · iexact HB_src0
    isplitl [HB_src1]; · iexact HB_src1
    isplitl [HB_src2]; · iexact HB_src2
    isplitl [HB_src3]; · iexact HB_src3
    isplitl [HB_src4]; · iexact HB_src4
    isplitl [HB_src5]; · iexact HB_src5
    isplitl [HB_src6]; · iexact HB_src6
    iexact HB_src7
  isplitl [Hsp]; · iapply (Entails.of_eq (staging_flat m d L)); iexact Hsp
  isplitl [Ho]; · iapply (Entails.of_eq (rows_landed m d L fo)); iexact Ho
  isplitl [HB]; · iexact HB
  isplitl [Hr]; · iexact Hr
  iexists _; iexact HO

/-! ## The core's buffers and cells opened -/

omit [FloatOps F] in
/-- The staging buffer is among the core's own buffers: they are it, at some contents, and the rest. -/
theorem ownBufs_core (c : Fin τ.nSC) :
    (ownBufs (S d c) : sProp 𝕄)
      = iprop((∃ f, spLoc d c ↦{fullShare} f)
          ∗ bigSep ((ownRefs (τ := τ) (.scScalar c)).erase ((Proc.scScalar c).devRef cc0_scratch0)) fun b => iprop(∃ f, ((d, b) : Loc nD τ sig) ↦{fullShare} f)) := by
  unfold SparseCore.Cfg.ownBufs
  exact SparseCore.bigSep_erase' ((mem_ownRefs (p := Proc.scScalar c) (b := (Proc.scScalar c).devRef cc0_scratch0)).mpr rfl)

omit [FloatOps F] in
/-- A DMA cell of the core's is among its own cells. -/
theorem dma_own (c : Fin τ.nSC) (s : DmaSem sig) : ((S d c, SemLoc.dma s) : GSem nD τ sig) ∈ ownCells (S d c) :=
  mem_ownCells.mpr ⟨rfl, (show ∀ s : DmaSem sig, (SemLoc.dma s : SemLoc sig).isScoped .scScalar = true by decide) s⟩

omit [FloatOps F] in
/-- The core's own cells at zero are the batch's cell, the copy out's cell and the rest. -/
theorem ownSems0_core (c : Fin τ.nSC) :
    (ownSems0 (S d c) : sProp 𝕄)
      = iprop(semVal (S d c, SemLoc.dma cc0_scratch1.sem) 0 ∗ semVal (S d c, SemLoc.dma cc0_scoped0.sem) 0
          ∗ bigSep (((ownCells (S d c)).erase (S d c, SemLoc.dma cc0_scratch1.sem)).erase (S d c, SemLoc.dma cc0_scoped0.sem)) fun g => semVal g 0) := by
  unfold SparseCore.Cfg.ownSems0
  have h := dma_own d c cc0_scratch1.sem
  rw [SparseCore.bigSep_erase' h,
    SparseCore.bigSep_erase' (i := ((S d c, SemLoc.dma cc0_scoped0.sem) : GSem nD τ sig)) (Finset.mem_erase.mpr ⟨fun e => absurd (Prod.mk.inj e).2 (by decide), dma_own d c cc0_scoped0.sem⟩)]

omit [FloatOps F] in
/-- The core's rows of the result, as the copy out addresses them. -/
theorem out_rows (f : Buf (Elt F) (oLoc d)) :
    (oPart d (L 0) f : sProp 𝕄) = ((outM (L 0)).view.loc (thr d L) ↦[(outM (L 0)).view.set]{fullShare} f) := by
  show (oLoc d ↦[outSet (L 0)]{fullShare} f : sProp 𝕄) = (oLoc d ↦[(outM (L 0)).view.set]{fullShare} f)
  exact congrArg (fun s : Finset S64x128.Idx => (oLoc d ↦[s]{fullShare} f : sProp 𝕄)) (outM_set (L 0)).symm

/-- The body on the core as the launch asks for it: handed its part of the table and its rows of the result as they were at the
    launch, it hands them back with those rows at the rows the program returns, its buffers and its cells as it found them. -/
theorem body (O : CellTallies nD τ sig (HIx 1)) (W : Waits sig (HIx 1)) (hO : ∀ g, O g none = 0) :
    iprop(levAts (K (F := F)).L (K (F := F)).lev ∗ emp ∗ (xPart m d (L 0) ∗ oPart d (L 0) (m (oLoc d)))
        ∗ scopedBufs (thr d L) ∗ scopedSems0 (thr d L) ∗ owes (thr d L) O W)
      ⊢ wp frame (wpE (defs₀ (F := F)) 𝒱₀ (thr d L) none) Set.univ
          (cc0_k L xM (Memref.isWhole_whole _) oM (Memref.isWhole_whole _) spM (Memref.isWhole_whole _) cc0_scratch1 cc0_scoped0)
          fun _ => iprop((xPart m d (L 0) ∗ oPart d (L 0) (G m d)) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_S facts d _, SparseCore.Cfg.scopedSems0_S (Val := Elt F) d _, ownSems0_core, ownBufs_core]
  iintro ⟨#Hlv, -, ⟨Hx, Ho⟩, ⟨⟨⟨%f, Hsp⟩, Hbufs⟩, Htiles⟩, ⟨⟨Hc, Hr, Hsems⟩, HtileSems⟩, HO⟩
  ihave Hmw := ((K (F := F)).mayWaits_none (thr := thr d L) hO) $$ Hlv
  ihave Hx' := (table_windows m d L).1 $$ Hx
  icases Hx' with ⟨Hdrop, Hsrc, Hrest⟩
  ihave Hsl := (Entails.of_eq (staging_slices d L f)) $$ Hsp
  ihave Ho' := (Entails.of_eq (out_rows d L (m (oLoc d)))) $$ Ho
  iapply (wp_wand_r Idealize.ShloMosaic.frame (wpE (defs₀ (F := F)) 𝒱₀ (thr d L) none) Set.univ)
  isplitl [Hsrc Hsl Ho' Hc Hr HO]
  · iapply (core_run m d L O W f (m (oLoc d)))
    isplitr; · iexact Hmw
    isplitl [Hsrc]; · iexact Hsrc
    isplitl [Hsl]; · iexact Hsl
    isplitl [Ho']; · iexact Ho'
    isplitl [Hc]; · iexact Hc
    isplitl [Hr]; · iexact Hr
    iexact HO
  iintro %_ ⟨Hsrc, Hsp, Ho, Hc, Hr, %W', HO⟩
  isplitl [Hdrop Hsrc Hrest Ho]
  · isplitl [Hdrop Hsrc Hrest]
    · iapply (table_windows m d L).2
      isplitl [Hdrop]; · iexact Hdrop
      isplitl [Hsrc]; · iexact Hsrc
      iexact Hrest
    iapply (Entails.of_eq (out_rows d L (G m d)).symm); iexact Ho
  isplitl [Hsp Hbufs Htiles]
  · isplitl [Hsp Hbufs]
    · isplitl [Hsp]; · iexists _; iexact Hsp
      iexact Hbufs
    iexact Htiles
  isplitl [Hc Hr Hsems HtileSems]
  · isplitl [Hc Hr Hsems]
    · isplitl [Hc]; · iexact Hc
      isplitl [Hr]; · iexact Hr
      iexact Hsems
    iexact HtileSems
  iexists W'; isplitr
  · ipureintro; intro p _
    rcases p.2 with _ | q
    · exact .inr (.inl rfl)
    · exact .inr (.inr (congrArg some (Subsingleton.elim q 0)))
  · iexact HO

end Body

end Cert.Proof.Gather

end
-- ==== Proof.Launch.lean ====
/-
  The kernel's run: every weakly fair execution of the device's threads terminates without a fault, the result holding the
  table's rows `1562 r`, the table as it was and every semaphore counter back at zero (`run_main`), at any float values and
  operations. The launch theorem at one scalar call on two SparseCores: the TensorCore cuts the table into a share for each
  core and the result into the cores' two blocks of 32 rows, the call carries them to the cores' scalar subcores and back
  (`P`), each core runs `body`, and the TensorCore joins what it gets back.
-/
module

public import proofs.«01_k».proof.Proof.Body

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.ShloMosaic.Transfers (shareTok shareDrop)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## What the call carries -/

/-- The call's core, of the two. -/
def coreOf : (q : Fin 1) → Fin ((K (F := F)).nCore q) → Fin 2
  | 0, c => c

/-- The call takes to core `c` its share of the table and its rows of the result as they were at the launch, and brings
    both back with those rows at the rows the program returns; it carries nothing else. -/
def P : (K (F := F)).Pay (nD := nD) (Val := Elt F) (Name := ℕ) (U := UU) where
  st := fun q d c => iprop(xPart m d (coreOf q c) ∗ oPart d (coreOf q c) (m (oLoc d)))
  dn := fun q d c => iprop(xPart m d (coreOf q c) ∗ oPart d (coreOf q c) (G m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The arrays cut between the cores -/

/-- The table whole is a remainder of its share and the two cores' parts. -/
theorem table_cores (d : Dev nD) :
    (xLoc d ↦{fullShare} m (xLoc d) : sProp 𝕄)
      ⊣⊢ iprop((xLoc d ↦{shareDrop fullShare 2} m (xLoc d)) ∗ bigSep Finset.univ (xPart m d)) :=
  Transfers.pointsTo_toks fullShare 2

/-- The result whole is the two cores' rows. -/
theorem result_cores (d : Dev nD) (f : Buf (Elt F) (oLoc d)) :
    (oLoc d ↦{fullShare} f : sProp 𝕄) = bigSep Finset.univ fun c => oPart d c f := by
  have h := pointsTo_biUnion (nD := nD) (τ := τ) (sig := sig) (Ix := HIx 1) (Val := Elt F) (Name := ℕ) (U := UU) (Lvl := ℕ)
    (ℓ := oLoc d) (q := fullShare) (f := f) Finset.univ outSet (fun c _ c' _ => out_disjoint c c')
  rw [out_cover] at h
  exact h

/-- What the call takes to the cores, all together, and what it brings back. -/
theorem st_cores (d : Dev nD) :
    (bigSep Finset.univ fun c : Fin ((K (F := F)).nCore 0) => (P m).st 0 d c)
      = iprop(bigSep Finset.univ (xPart m d) ∗ oLoc d ↦{fullShare} m (oLoc d)) := by
  rw [result_cores, ← bigSep_sep']; rfl
theorem dn_cores (d : Dev nD) :
    (bigSep Finset.univ fun c : Fin ((K (F := F)).nCore 0) => (P m).dn 0 d c)
      = iprop(bigSep Finset.univ (xPart m d) ∗ oLoc d ↦{fullShare} G m d) := by
  rw [result_cores, ← bigSep_sep']; rfl

/-- The TensorCore's arrays: the table and the result. -/
theorem arrays_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

variable [FloatOps F]

/-! ## The launch theorem's obligations -/

/-- Core `c`'s coordinates in the kernel's grid. -/
def coordsS (c : Fin (grid0.bound 0)) : grid0.Coords := fun | 0 => c | ⟨_ + 1, h⟩ => absurd h (Nat.not_lt.2 (Nat.le_add_left _ _))

theorem defs₀_scalar (c : Fin τ.nSC) :
    defs₀ (F := F) (.scScalar c) 0 ()
      = SparseCore.onCore hcore0 (fun c => cc0_k (coordsS c) xM (Memref.isWhole_whole _) oM (Memref.isWhole_whole _) spM (Memref.isWhole_whole _)
          cc0_scratch1 cc0_scoped0) ⟨⟩ c := rfl

/-- Each core's scalar subcore runs `body`. -/
theorem scalarObl : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact body m d (coordsS ⟨_, hc⟩) O W hO

/-- The launch's ghost element: the handshakes' rounds, and no copy under way. -/
def u₀ : UU := (initOf (K (F := F)).hsCells (K (F := F)).hsToks, 1)

omit [FloatOps F] in
/-- Nothing, once for each of a set, is nothing. -/
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-- What the TensorCore ends with: the table as it was, the result at the table's rows `1562 r`. -/
abbrev FIN (d : Dev nD) : sProp 𝕄 := iprop((xLoc d ↦{fullShare} m (xLoc d)) ∗ oLoc d ↦{fullShare} G m d)

/-- The program on device `d`'s TensorCore: the arrays cut between the cores, the call, the arrays joined. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [arrays_eq]
  simp only [main, wp_bind, wp_pure]
  iintro ⟨#Hctx, Hst, ⟨Hb, ⟨Hx, Ho⟩, Hts, -⟩, -⟩
  ihave Hx' := (table_cores m d).1 $$ Hx
  icases Hx' with ⟨Hdrop, Hxs⟩
  iapply ((K (F := F)).wp_run (D (F := F)) 𝒱 (EH := EH) (P := P m) κ d 0) $$ [Hst Hxs Ho Hb Hdrop Hts]
  isplitr; · iexact Hctx
  isplitl [Hst]; · iexact Hst
  isplitl [Hxs Ho]
  · rw [st_cores]
    isplitl [Hxs]; · iexact Hxs
    iexact Ho
  iintro ⟨Hst, Hdn⟩
  ihave Hdn' := (Entails.of_eq (dn_cores m d)) $$ Hdn
  icases Hdn' with ⟨Hxs, Ho⟩
  imodintro
  isplitl [Hst]; · iexact Hst
  isplitr [Hb Hts]
  · isplitl [Hxs Hdrop]
    · iapply (table_cores m d).2
      isplitl [Hdrop]; · iexact Hdrop
      iexact Hxs
    iexact Ho
  isplitl [Hb] <;> iassumption

/-- What the claims read of device `d`'s final state: the result at the table's rows `1562 r`, the table as it was. -/
def fq (d : Dev nD) (s' : Phys nD τ sig (Elt F)) : Prop := s'.mem.mem (oLoc d) = G m d ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := G m d)) $$ [HSI Ho]
  · isplitl [HSI] <;> iassumption
  icases H with %ho
  ipureintro; exact ⟨funext fun i => ho i (Finset.mem_univ i), funext fun i => hx i (Finset.mem_univ i)⟩

/-! ## The run -/

/-- At the end of the run, on every device: the result at the table's rows `1562 r`, the table as it was; and every
    semaphore counter at zero. -/
def QC : PUnit × MemSt nD τ sig (Elt F) → Prop :=
  fun r => (∀ c : Dev nD, r.2.mem (oLoc c) = G m c ∧ r.2.mem (xLoc c) = m (xLoc c)) ∧ r.2.sem = fun _ => 0

/-- The program, launched with every semaphore counter at zero, terminates without a fault and ends as `QC` says. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Reference.lean ====
/-
  What the reference returns. It makes the indices `1562 r` for `r < 64`, adds 100000 to those that are negative (none is),
  gathers the table's rows at them and puts a NaN in the rows whose index is outside the table (none is): its result's row
  `r` is the table's row `1562 r` (`refValue_eq`). The reference is printed twice, once to be read on floats as bits and once
  on floats as extended reals; both runs are read here (`run_ideal`, `run_bits`).
-/
module

public import proofs.«01_k».proof.Proof.Windows
public import proofs.«01_k».proof.Proof.Gen.ReferenceIdeal.Run
public import proofs.«01_k».proof.Proof.Gen.Reference.Run
public import Idealize.ShloMosaic.Lib.Routing.Ops
public import Idealize.ShloMosaic.Lib.ReduceAll

@[expose] public section

noncomputable section

namespace Cert.Proof.Take

open Cert.ReferenceIdeal Cert.ReferenceIdeal.Gen
open Idealize.ShloMosaic Idealize.ShloMosaic.ValueIdx Idealize.SL.Sem

variable {F : FTy → Type} [FloatOps F]

/-- The indices `1562 r`. -/
def rawIndex : IVec S64 32 := muli (iotaInDim S64 32 0) (broadcastInDim S64 ![] bcast_S_S64 (constantI S_ 32 1562#32))

/-- The indices the gather is given: those, a negative one counted from the table's end. -/
def startIndex : IVec S64x1 32 :=
  broadcastInDim S64x1 ![0] bcast_S64_S64x1_0
    (select (cmpi .slt rawIndex (broadcastInDim S64 ![] bcast_S_S64 (constantI S_ 32 0#32)))
      (addi rawIndex (broadcastInDim S64 ![] bcast_S_S64 (constantI S_ 32 100000#32))) rawIndex)

/-- For each row of the result, whether its index is inside the table. -/
def inTable : IVec S64x1 1 :=
  andi (cmpi .sge startIndex (broadcastInDim S64x1 ![] bcast_S_S64x1 (constantI S_ 32 0#32)))
    (cmpi .sle startIndex (broadcastInDim S64x1 ![0, 1] bcast_S1x1_S64x1_0_1 (broadcastInDim S1x1 ![1] bcast_S1_S1x1_1 (constantI S1 32 99999#32))))

/-- The reference's result from the table. -/
def refValue (x : S100000x128.Idx → F .f32) : S64x128.Idx → F .f32 :=
  select (broadcastInDim S64x128 ![0] bcast_S64_S64x128_0 (Host.reduce IntOp.andi inTable (constantI S_ 1 1#1) reducesTo_S64x1_S64_d1 h_S_))
    (Host.gather gather_S100000x128_S64x1_S64x128_1_0_n_n_0_1_1128 x startIndex)
    (broadcastInDim S64x128 ![] bcast_S_S64x128 (constant S_ .f32 0x7FC00000#32))

/-- Row `r`'s index is `1562 r`: none is negative. -/
theorem startIndex_apply : ∀ r : Fin 64, startIndex (ix2 (n0 := 64) (n1 := 1) r 0) = BitVec.ofNat 32 (1562 * r.val) := by decide +kernel

/-- Every row's index is inside the table. -/
theorem inTable_apply : ∀ r : Fin 64, inTable (ix2 (n0 := 64) (n1 := 1) r 0) = 1#1 := by decide +kernel

/-- The reference's row `r` is the table's row `1562 r`. -/
theorem refValue_eq (x : S100000x128.Idx → F .f32) : refValue x = Gather.rowsOf x := by
  funext i
  have hm : Host.reduce IntOp.andi inTable (constantI S_ 1 1#1) reducesTo_S64x1_S64_d1 h_S_ = fun _ => 1#1 :=
    funext fun j => Host.reduce_andi_one inTable (constantI S_ 1 1#1) reducesTo_S64x1_S64_d1 h_S_ j rfl fun k => by
      have e : k = ix2 (n0 := 64) (n1 := 1) (k 0) 0 := Gather.idx2_eq rfl (by have : (k 1).val < 1 := (k 1).isLt; show (k 1).val = 0; omega)
      rw [e]; exact inTable_apply _
  unfold refValue
  rw [hm]
  show Host.gather gather_S100000x128_S64x1_S64x128_1_0_n_n_0_1_1128 x startIndex i = _
  have hi : i = ix2 (n0 := 64) (n1 := 128) (i 0) (i 1) := Gather.idx2_eq rfl rfl
  have h0 : (i 0).val < 64 := (i 0).isLt
  rw [hi]
  exact Routing.gather_row gather_S100000x128_S64x1_S64x128_1_0_n_n_0_1_1128 rfl rfl rfl rfl rfl x startIndex (i 0) (i 1)
    ⟨1562 * (i 0).val, by omega⟩ (startIndex_apply (i 0)) (by decide)

/-- The reference read on extended reals: its result is the table's rows `1562 r`, the table as it was. -/
theorem run_ideal (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v3)
            = Gather.rowsOf (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0) :=
  (θ_run Cert.ReferenceIdeal.defs _ _).mono (fun _ h c => ⟨(h c).1.trans (refValue_eq (F := Ideal) _), (h c).2⟩)
    (Cert.ReferenceIdeal.Value.run (F := Ideal) m ρ)

/-- The reference read on bits: its result is the table's rows `1562 r`, the table as it was. -/
theorem run_bits (m : (ℓ : Loc Cert.Reference.nD Cert.Reference.τ Cert.Reference.sig) → Buf (Elt Bits) ℓ)
    (ρ : Dev Cert.Reference.nD → PrngReg) :
    θ_run (Cert.Reference.defs (F := Bits)) (onTc (τ := Cert.Reference.τ) (Cert.Reference.main (F := Bits))) ⟨m, fun _ => 0, ρ⟩
      fun r => ∀ c : Dev Cert.Reference.nD,
        r.2.mem ((c.tc : Thread Cert.Reference.nD Cert.Reference.τ).loc Cert.Reference.main_v3)
            = Gather.rowsOf (m ((c.tc : Thread Cert.Reference.nD Cert.Reference.τ).loc Cert.Reference.main_arg0))
        ∧ r.2.mem ((c.tc : Thread Cert.Reference.nD Cert.Reference.τ).loc Cert.Reference.main_arg0)
            = m ((c.tc : Thread Cert.Reference.nD Cert.Reference.τ).loc Cert.Reference.main_arg0) :=
  (θ_run Cert.Reference.defs _ _).mono (fun _ h c => ⟨(h c).1.trans (refValue_eq (F := Bits) _), (h c).2⟩)
    (Cert.Reference.Value.run (F := Bits) m ρ)

end Cert.Proof.Take

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import Idealize.ShloMosaic.Adequacy
public import Idealize.ShloMosaic.Init
public import proofs.«01_k».proof.Proof.Launch
public import proofs.«01_k».proof.Proof.Reference

@[expose] public section

noncomputable section

-- Each frame also says that every semaphore counter ends at zero.

namespace Cert.Proof

open Idealize.ShloMosaic Idealize.SL.Sem Cert.Kernel

/-- The kernel on bits: it terminates without a fault, the table as it was, every semaphore counter at zero. -/
theorem frame_kernel : Cert.quiescent_Kernel := fun m ρ _ =>
  (θ_run Cert.KernelIdeal.defs _ _).mono (fun _ h => ⟨fun c => (h.1 c).2, h.2⟩) (Gather.run_main (F := Bits) m ρ)

/-- The kernel on extended reals: the same. -/
theorem frame_kernel_ideal : Cert.quiescent_KernelIdeal := fun m ρ _ =>
  (θ_run Cert.KernelIdeal.defs _ _).mono (fun _ h => ⟨fun c => (h.1 c).2, h.2⟩) (Gather.run_main (F := Ideal) m ρ)

/-- The reference on extended reals: the same; it has no semaphore. -/
theorem frame_reference_ideal : Cert.quiescent_ReferenceIdeal := fun m ρ _ =>
  (θ_run Cert.ReferenceIdeal.defs _ _).mono (fun r h => ⟨fun c => (h c).2, sem_eq_zero_of_no_sems (by decide) r.2⟩) (Take.run_ideal m ρ)

/-- The reference on bits: the same. -/
theorem frame_reference : Cert.quiescent_Reference := fun m ρ _ =>
  (θ_run Cert.Reference.defs _ _).mono (fun r h => ⟨fun c => (h c).2, sem_eq_zero_of_no_sems (by decide) r.2⟩) (Take.run_bits m ρ)

/-- On extended reals, from equal tables, the kernel and the reference end with equal results. -/
theorem algebraic : Cert.algebraic_KernelIdeal_ReferenceIdeal := fun m ρ m' ρ' _ hm =>
  ⟨fun c => Gather.G m c,
    (θ_run Cert.KernelIdeal.defs _ _).mono (fun _ h => h.1) (Gather.run_main (F := Ideal) m ρ),
    (θ_run Cert.ReferenceIdeal.defs _ _).mono (fun _ h c => ⟨(h c).1.trans (congrArg Gather.rowsOf (hm c)), (h c).2⟩) (Take.run_ideal m' ρ')⟩

/-- On bits, from equal tables, the kernel and the reference end with equal results. -/
theorem bitexact : Cert.bitexact_Kernel_Reference := fun m ρ m' ρ' _ hm =>
  ⟨fun c => Gather.G (F := Bits) m c,
    (θ_run Cert.KernelIdeal.defs _ _).mono (fun _ h => h.1) (Gather.run_main (F := Bits) m ρ),
    (θ_run Cert.Reference.defs _ _).mono (fun _ h c => ⟨(h c).1.trans (congrArg Gather.rowsOf (hm c)), (h c).2⟩) (Take.run_bits m' ρ')⟩

theorem claim : Cert.Claim := ⟨Cert.Kernel.Gen.facts, Cert.KernelIdeal.Gen.facts, Cert.ReferenceIdeal.Gen.facts, Cert.Reference.Gen.facts,
  frame_kernel, frame_kernel_ideal, frame_reference_ideal, frame_reference, trivial, algebraic, bitexact⟩

end Cert.Proof

end
